-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_table [hPre_indices_in_table : Cert.Pre_indices_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_table [hPre_indices_in_table : Cert.Pre_indices_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_indices_in_table [hKernelIdeal : Cert.KernelIdeal.Facts] [hPre_indices_in_table : Cert.Pre_indices_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_indices_in_table [hReferenceIdeal : Cert.ReferenceIdeal.Facts] [hPre_indices_in_table : Cert.Pre_indices_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_indices_in_table [hKernelIdeal : Cert.KernelIdeal.Facts] [hReferenceIdeal : Cert.ReferenceIdeal.Facts] [hPre_indices_in_table : Cert.Pre_indices_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_indices_in_table : Cert.Pre_indices_in_table.Facts),
    quiescent_Kernel (hKernel := hKernel)
    ∧ quiescent_KernelIdeal (hKernelIdeal := hKernelIdeal)
    ∧ quiescent_KernelIdeal_pre_indices_in_table (hKernelIdeal := hKernelIdeal) (hPre_indices_in_table := hPre_indices_in_table)
    ∧ quiescent_ReferenceIdeal (hReferenceIdeal := hReferenceIdeal)
    ∧ quiescent_ReferenceIdeal_pre_indices_in_table (hReferenceIdeal := hReferenceIdeal) (hPre_indices_in_table := hPre_indices_in_table)
    ∧ preserves_Kernel_KernelIdeal
    ∧ algebraic_KernelIdeal_ReferenceIdeal_pre_indices_in_table (hKernelIdeal := hKernelIdeal) (hReferenceIdeal := hReferenceIdeal) (hPre_indices_in_table := hPre_indices_in_table)
-- ==== Pre_indices_in_table.lean ====
abbrev S4096x200 : Shape := ⟨2, ![4096, 200]⟩
abbrev S4096x200x109 : Shape := ⟨3, ![4096, 200, 109]⟩
abbrev S4096x1 : Shape := ⟨2, ![4096, 1]⟩
abbrev S128x118 : Shape := ⟨2, ![128, 118]⟩
abbrev S2x103 : Shape := ⟨2, ![2, 103]⟩
abbrev S1x200x128 : Shape := ⟨3, ![1, 200, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S4096x200x109 .f32) (main_arg2 : FVec F S4096x1 .f32) (main_arg3 : FVec F S128x118 .f32) (main_arg4 : FVec F S2x103 .f32) (main_arg5 : FVec F S1x200x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 128#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S4096x200x109 : Shape := ⟨3, ![4096, 200, 109]⟩
abbrev S4096x1 : Shape := ⟨2, ![4096, 1]⟩
abbrev S128x118 : Shape := ⟨2, ![128, 118]⟩
abbrev S2x103 : Shape := ⟨2, ![2, 103]⟩
abbrev S1x200x128 : Shape := ⟨3, ![1, 200, 128]⟩
abbrev S_ : Shape := ⟨0, ![]⟩
abbrev S128x128 : Shape := ⟨2, ![128, 128]⟩
abbrev S1 : Shape := ⟨1, ![1]⟩
abbrev S109x128 : Shape := ⟨2, ![109, 128]⟩
abbrev S6x6 : Shape := ⟨2, ![6, 6]⟩
abbrev S2 : Shape := ⟨1, ![2]⟩
abbrev S103x2 : Shape := ⟨2, ![103, 2]⟩
abbrev S200x128 : Shape := ⟨2, ![200, 128]⟩
abbrev S4096x200x128 : Shape := ⟨3, ![4096, 200, 128]⟩
abbrev S64x200 : Shape := ⟨2, ![64, 200]⟩
abbrev S64x200x109 : Shape := ⟨3, ![64, 200, 109]⟩
abbrev S64x1 : Shape := ⟨2, ![64, 1]⟩
abbrev S64x200x128 : Shape := ⟨3, ![64, 200, 128]⟩
abbrev S64x200x1 : Shape := ⟨3, ![64, 200, 1]⟩
abbrev S12800x128 : Shape := ⟨2, ![12800, 128]⟩
abbrev S12800x109 : Shape := ⟨2, ![12800, 109]⟩
abbrev S1x1x128 : Shape := ⟨3, ![1, 1, 128]⟩
abbrev S64x1x1 : Shape := ⟨3, ![64, 1, 1]⟩
abbrev S64x1x128 : Shape := ⟨3, ![64, 1, 128]⟩

abbrev nBuf : Space → Nat
  | .hbm => 37
  | .vmem => 11
  | .smem => 0
  | _ => 0

abbrev bufTy : (tb : Table) → Fin (tcTables nBuf tb) → BufTy
  | .hbm, ⟨0, _⟩ => ⟨S4096x200, .i32⟩
  | .hbm, ⟨1, _⟩ => ⟨S4096x200x109, .f32⟩
  | .hbm, ⟨2, _⟩ => ⟨S4096x1, .f32⟩
  | .hbm, ⟨3, _⟩ => ⟨S128x118, .f32⟩
  | .hbm, ⟨4, _⟩ => ⟨S2x103, .f32⟩
  | .hbm, ⟨5, _⟩ => ⟨S1x200x128, .f32⟩
  | .hbm, ⟨6, _⟩ => ⟨S_, .f32⟩
  | .hbm, ⟨7, _⟩ => ⟨S128x128, .f32⟩
  | .hbm, ⟨8, _⟩ => ⟨S_, .i32⟩
  | .hbm, ⟨9, _⟩ => ⟨S1, .i32⟩
  | .hbm, ⟨10, _⟩ => ⟨S128x128, .f32⟩
  | .hbm, ⟨11, _⟩ => ⟨S_, .f32⟩
  | .hbm, ⟨12, _⟩ => ⟨S109x128, .f32⟩
  | .hbm, ⟨13, _⟩ => ⟨S6x6, .i32⟩
  | .hbm, ⟨14, _⟩ => ⟨S6x6, .i32⟩
  | .hbm, ⟨15, _⟩ => ⟨S_, .i32⟩
  | .hbm, ⟨16, _⟩ => ⟨S6x6, .i32⟩
  | .hbm, ⟨17, _⟩ => ⟨S6x6, .i32⟩
  | .hbm, ⟨18, _⟩ => ⟨S6x6, .i1⟩
  | .hbm, ⟨19, _⟩ => ⟨S6x6, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S109x128, .f32⟩
  | .hbm, ⟨26, _⟩ => ⟨S103x2, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S109x128, .f32⟩
  | .hbm, ⟨33, _⟩ => ⟨S128x128, .bf16⟩
  | .hbm, ⟨34, _⟩ => ⟨S109x128, .bf16⟩
  | .hbm, ⟨35, _⟩ => ⟨S200x128, .f32⟩
  | .hbm, ⟨36, _⟩ => ⟨S4096x200x128, .f32⟩
  | .local _ .vmem, ⟨0, _⟩ => ⟨S64x200, .i32⟩
  | .local _ .vmem, ⟨1, _⟩ => ⟨S64x200, .i32⟩
  | .local _ .vmem, ⟨2, _⟩ => ⟨S64x200x109, .f32⟩
  | .local _ .vmem, ⟨3, _⟩ => ⟨S64x200x109, .f32⟩
  | .local _ .vmem, ⟨4, _⟩ => ⟨S64x1, .f32⟩
  | .local _ .vmem, ⟨5, _⟩ => ⟨S64x1, .f32⟩
  | .local _ .vmem, ⟨6, _⟩ => ⟨S128x128, .bf16⟩
  | .local _ .vmem, ⟨7, _⟩ => ⟨S109x128, .bf16⟩
  | .local _ .vmem, ⟨8, _⟩ => ⟨S200x128, .f32⟩
  | .local _ .vmem, ⟨9, _⟩ => ⟨S64x200x128, .f32⟩
  | .local _ .vmem, ⟨10, _⟩ => ⟨S64x200x128, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_cst_0 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_c_2 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_c_4 : Ref sig .tc := ⟨.hbm, 27, rfl⟩
abbrev main_call0_v15 : Ref sig .tc := ⟨.hbm, 28, rfl⟩
abbrev main_call0_c_5 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_v0 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200x109 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S109x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x200 : Shape := ⟨2, ![4096, 200]⟩
abbrev S4096x200x109 : Shape := ⟨3, ![4096, 200, 109]⟩
abbrev S4096x1 : Shape := ⟨2, ![4096, 1]⟩
abbrev S128x118 : Shape := ⟨2, ![128, 118]⟩
abbrev S2x103 : Shape := ⟨2, ![2, 103]⟩
abbrev S1x200x128 : Shape := ⟨3, ![1, 200, 128]⟩
abbrev S4096x200x6 : Shape := ⟨3, ![4096, 200, 6]⟩
abbrev S4096x200x103 : Shape := ⟨3, ![4096, 200, 103]⟩
abbrev S103x2 : Shape := ⟨2, ![103, 2]⟩
abbrev S4096x200x2 : Shape := ⟨3, ![4096, 200, 2]⟩
abbrev S4096x200x8 : Shape := ⟨3, ![4096, 200, 8]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x118 : Shape := ⟨3, ![4096, 200, 118]⟩
abbrev S4096x1x1 : Shape := ⟨3, ![4096, 1, 1]⟩
abbrev S1x4096x1x1x1x1 : Shape := ⟨6, ![1, 4096, 1, 1, 1, 1]⟩
abbrev S1x4096x200x1x2x1 : Shape := ⟨6, ![1, 4096, 200, 1, 2, 1]⟩
abbrev S4096x200x128 : Shape := ⟨3, ![4096, 200, 128]⟩

abbrev nBuf : Space → Nat
  | .hbm => 41
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200x109, .f32⟩
  | .hbm, ⟨2, _⟩ => ⟨S4096x1, .f32⟩
  | .hbm, ⟨3, _⟩ => ⟨S128x118, .f32⟩
  | .hbm, ⟨4, _⟩ => ⟨S2x103, .f32⟩
  | .hbm, ⟨5, _⟩ => ⟨S1x200x128, .f32⟩
  | .hbm, ⟨6, _⟩ => ⟨S4096x200x6, .f32⟩
  | .hbm, ⟨7, _⟩ => ⟨S4096x200x103, .f32⟩
  | .hbm, ⟨8, _⟩ => ⟨S103x2, .f32⟩
  | .hbm, ⟨9, _⟩ => ⟨S4096x200x2, .f32⟩
  | .hbm, ⟨10, _⟩ => ⟨S4096x200x8, .f32⟩
  | .hbm, ⟨11, _⟩ => ⟨S_, .i32⟩
  | .hbm, ⟨12, _⟩ => ⟨S4096x200, .i32⟩
  | .hbm, ⟨13, _⟩ => ⟨S4096x200, .i1⟩
  | .hbm, ⟨14, _⟩ => ⟨S_, .i32⟩
  | .hbm, ⟨15, _⟩ => ⟨S4096x200, .i32⟩
  | .hbm, ⟨16, _⟩ => ⟨S4096x200, .i32⟩
  | .hbm, ⟨17, _⟩ => ⟨S4096x200, .i32⟩
  | .hbm, ⟨18, _⟩ => ⟨S4096x200x1, .i32⟩
  | .hbm, ⟨19, _⟩ => ⟨S1, .i32⟩
  | .hbm, ⟨20, _⟩ => ⟨S_, .i32⟩
  | .hbm, ⟨21, _⟩ => ⟨S4096x200x1, .i32⟩
  | .hbm, ⟨22, _⟩ => ⟨S4096x200x1, .i1⟩
  | .hbm, ⟨23, _⟩ => ⟨S1x1x1, .i32⟩
  | .hbm, ⟨24, _⟩ => ⟨S4096x200x1, .i32⟩
  | .hbm, ⟨25, _⟩ => ⟨S4096x200x1, .i1⟩
  | .hbm, ⟨26, _⟩ => ⟨S4096x200x1, .i1⟩
  | .hbm, ⟨27, _⟩ => ⟨S_, .i1⟩
  | .hbm, ⟨28, _⟩ => ⟨S4096x200, .i1⟩
  | .hbm, ⟨29, _⟩ => ⟨S4096x200x118, .f32⟩
  | .hbm, ⟨30, _⟩ => ⟨S4096x200x118, .i1⟩
  | .hbm, ⟨31, _⟩ => ⟨S_, .f32⟩
  | .hbm, ⟨32, _⟩ => ⟨S4096x200x118, .f32⟩
  | .hbm, ⟨33, _⟩ => ⟨S4096x200x118, .f32⟩
  | .hbm, ⟨34, _⟩ => ⟨S4096x1x1, .f32⟩
  | .hbm, ⟨35, _⟩ => ⟨S1x4096x1x1x1x1, .f32⟩
  | .hbm, ⟨36, _⟩ => ⟨S1x4096x200x1x2x1, .f32⟩
  | .hbm, ⟨37, _⟩ => ⟨S4096x200x2, .f32⟩
  | .hbm, ⟨38, _⟩ => ⟨S4096x200x128, .f32⟩
  | .hbm, ⟨39, _⟩ => ⟨S4096x200x128, .f32⟩
  | .hbm, ⟨40, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩

abbrev nD : Nat := 1
abbrev τ : Topo := Topo.v7x

variable {F : FTy → Type} [FloatOps F]
-- ==== Proof.Block.lean ====
/- What one block of the kernel computes, read at one element: the two matrix products, the row of `pe`, and the charge on the
   last two lanes. -/
module

public import proofs.«01_k».proof.Proof.Gen.KernelIdeal.Skeleton
public import Idealize.ShloMosaic.Lib.Pointwise

@[expose] public section

noncomputable section

namespace Cert.Proof.Block

open Idealize.ShloMosaic Cert.KernelIdeal Cert.KernelIdeal.Gen
open scoped BigOperators

/-- The entry of the one-hot row as the kernel forms it: the comparison bit of an index word with a lane number, widened and
    converted. It is 1 on the lane the word names and 0 on the others. -/
theorem onehot_entry (w : BitVec 32) (k : Fin 128) :
    (FloatOps.sitofp (F := Ideal) .f32 (BitVec.setWidth 32 (IntOp.cmpi .eq w (BitVec.ofNat 32 k.val))) : EReal)
      = if w = BitVec.ofNat 32 k.val then 1 else 0 := by
  by_cases h : w = BitVec.ofNat 32 k.val
  · simp [IntOp.cmpi, FloatOps.sitofp, h]
  · have h' : (w == BitVec.ofNat 32 k.val) = false := by simpa using h
    simp [IntOp.cmpi, FloatOps.sitofp, h, h']

/-- A one-hot row times a column picks the entry the index word names, when the word names a row of the table. -/
theorem onehot_sum (w : BitVec 32) (hw : w.toNat < 128) (f : Fin 128 → EReal) :
    (∑ k : Fin 128, FloatOps.sitofp (F := Ideal) .f32 (BitVec.setWidth 32 (IntOp.cmpi .eq w (BitVec.ofNat 32 k.val))) * f k)
      = f ⟨w.toNat, hw⟩ := by
  rw [Finset.sum_eq_single (⟨w.toNat, hw⟩ : Fin 128)]
  · rw [onehot_entry, if_pos (by simp), one_mul]
  · intro k _ hk
    rw [onehot_entry, if_neg, zero_mul]
    intro e
    apply hk
    apply Fin.ext
    show k.val = w.toNat
    rw [e, BitVec.toNat_ofNat, Nat.mod_eq_of_lt (by omega)]
  · intro h
    exact absurd (Finset.mem_univ _) h

/-- The kernel's comparison of a lane number with 126 selects `x` on the last two lanes and `y` on the others. -/
theorem charge_lane (j : Fin 128) (x y : EReal) :
    Scalar.select (IntOp.cmpi .sge (BitVec.ofNat 32 j.val) 126#32) x y = if 126 ≤ j.val then x else y := by
  have key : ∀ j : Fin 128, IntOp.cmpi .sge (BitVec.ofNat 32 j.val) 126#32 = if 126 ≤ j.val then 1#1 else 0#1 := by decide
  rw [key j]
  by_cases h : 126 ≤ j.val
  · rw [if_pos h, if_pos h]; rfl
  · rw [if_neg h, if_neg h]; rfl

/-- One element of a block: the table row the index word names, the modification row times the projection's column, the
    positional term, and the charge on lanes 126 and 127. -/
theorem payload_apply (idx : Vec Ideal S64x200 .i32) (mod : Vec Ideal S64x200x109 .f32) (A : Vec Ideal S128x128 .bf16)
    (M : Vec Ideal S109x128 .bf16) (pe : Vec Ideal S200x128 .f32) (charge : Vec Ideal S64x1 .f32)
    (b : Fin 64) (l : Fin 200) (j : Fin 128) (hw : (idx (ix2 b l)).toNat < 128) :
    (k0_pay1 (F := Ideal) idx mod A M pe charge (ix3 b l j) : EReal)
      = A (ix2 ⟨(idx (ix2 b l)).toNat, hw⟩ j) + (∑ k : Fin 109, mod (ix3 b l k) * M (ix2 k j)) + pe (ix2 l j)
        + (if 126 ≤ j.val then charge (ix2 b 0) else 0) := by
  pointwise [k0_pay1]
  rw [onehot_sum _ hw fun k => A (ix2 k j), charge_lane]

end Cert.Proof.Block

end
-- ==== Proof.Prefix.lean ====
/- The three arrays the program prepares before the kernel's grid runs, as functions of the arguments: the widened table, the
   projection of the modification features onto the lanes, and `pe` without its leading unit axis. -/
module

public import proofs.«01_k».proof.Proof.Gen.KernelIdeal.Frame
public import Idealize.ShloMosaic.Lib.StableHlo.Run
public import Idealize.ShloMosaic.PureOps.Ideal

@[expose] public section

noncomputable section

namespace Cert.Proof.Prefix

open Idealize.ShloMosaic Idealize.SL.Sem Idealize.ShloMosaic.StableHlo Idealize.ShloMosaic.TcCoe Cert.KernelIdeal Cert.KernelIdeal.Gen

/-- The table widened to 128 lanes: a zero array with the table written over lanes 0 to 117. -/
def table (aa : FVec Ideal S128x118 .f32) : FVec Ideal S128x128 .f32 :=
  Host.scatter scatter_S128x128_S1_S128x118_01_n_1_0 (fun _ b => b)
    (broadcastInDim S128x128 ![] bcast_S_S128x128 (constant S_ .f32 0x00000000#32))
    (broadcastInDim S1 ![] bcast_S_S1 (constantI S_ 32 0#32)) aa

/-- A pair of index words, as the program joins them. -/
def pair (x y : BitVec 32) : IVec S2 32 :=
  concatenate S2 0 [⟨S1, broadcastInDim S1 ![] bcast_S_S1 (constantI S_ 32 x)⟩, ⟨S1, broadcastInDim S1 ![] bcast_S_S1 (constantI S_ 32 y)⟩]
    concatenates_S1_S1_S2_d0

/-- The 6×6 identity as the program forms it: the comparison bit of the row number with the column number, converted. -/
def identity : FVec Ideal S6x6 .f32 :=
  uitofp .f32 (cmpi .eq (addi (iotaInDim S6x6 32 0) (broadcastInDim S6x6 ![] bcast_S_S6x6 (constantI S_ 32 0#32))) (iotaInDim S6x6 32 1))

/-- The first half of the projection: a zero array with the identity written at row 0, lane 118. -/
def copyLanes : FVec Ideal S109x128 .f32 :=
  Host.scatter scatter_S109x128_S2_S6x6_01_n_01_0 (fun _ b => b)
    (broadcastInDim S109x128 ![] bcast_S_S109x128 (constant S_ .f32 0x00000000#32)) (pair 0#32 118#32) identity

/-- The projection of the modification features onto the lanes: the copied lanes, with the transposed weights written at
    row 6, lane 124. -/
def projection (W : FVec Ideal S2x103 .f32) : FVec Ideal S109x128 .f32 :=
  Host.scatter scatter_S109x128_S2_S103x2_01_n_01_0 (fun _ b => b) copyLanes (pair 6#32 124#32)
    (transpose S103x2 [1, 0] W transposes_S2x103_S103x2_1_0)

variable (m : (ℓ : Loc nD τ sig) → Buf (Elt Ideal) ℓ) (c : Dev nD)

set_option maxRecDepth 16384 in
set_option maxHeartbeats 1600000 in
/-- The grid's fourth array is the widened table. -/
theorem V_table : V m c main_call0_v19 = truncf .bf16 (table (m ((c : Thread nD τ).loc main_arg3))) bitsLt_bf16_f32 := by
  simp only [V, hostOps0, TRef.binary, TRef.nullary, TRef.ternary, TRef.unary, TRef.toBuf, TRef.ofBuf, cast_eq]
  after_results_simp <;> (try dsimp only [Matrix.cons_val]) <;> (try after_results_simp) <;> rfl

set_option maxRecDepth 16384 in
set_option maxHeartbeats 1600000 in
/-- The grid's fifth array is the projection. -/
theorem V_projection : V m c main_call0_v20 = truncf .bf16 (projection (m ((c : Thread nD τ).loc main_arg4))) bitsLt_bf16_f32 := by
  simp only [V, hostOps0, TRef.binary, TRef.nullary, TRef.ternary, TRef.unary, TRef.toBuf, TRef.ofBuf, cast_eq]
  after_results_simp <;> (try dsimp only [Matrix.cons_val]) <;> (try after_results_simp) <;> rfl

set_option maxRecDepth 16384 in
set_option maxHeartbeats 1600000 in
/-- The grid's sixth array is `pe` with its leading unit axis dropped. -/
theorem V_pe : V m c main_call0_v21 = shapeCast S200x128 (m ((c : Thread nD τ).loc main_arg5)) shapeCasts_S1x200x128_S200x128 := by
  simp only [V, hostOps0, TRef.binary, TRef.nullary, TRef.ternary, TRef.unary, TRef.toBuf, TRef.ofBuf, cast_eq]
  after_results_simp <;> (try dsimp only [Matrix.cons_val]) <;> (try after_results_simp) <;> rfl

end Cert.Proof.Prefix

end
-- ==== Proof.Tables.lean ====
/- The widened table and the projection, read at one entry. -/
module

public import proofs.«01_k».proof.Proof.Prefix
public import Idealize.ShloMosaic.Lib.Pointwise
public import Idealize.ShloMosaic.Lib.Routing.OpsOne
public import Idealize.ShloMosaic.Lib.Routing.OpsSet
public import Idealize.ShloMosaic.Lib.Pipeline.Value

@[expose] public section

noncomputable section

namespace Cert.Proof.Tables

open Idealize.ShloMosaic Idealize.SL.Sem Cert.KernelIdeal Cert.KernelIdeal.Gen Cert.Proof.Prefix

/-- Writing an `A × B` array over part of an `R × C` one, its corner at row `r0`, column `c0`: an entry under the window reads
    the written array, the others keep what they held. -/
theorem scatter_window {α : Type} {R C A B w : Nat} {si : Shape} (d : ScatterDims ⟨2, ![R, C]⟩ si ⟨2, ![A, B]⟩)
    (x : (⟨2, ![R, C]⟩ : Shape).Idx → α) (idx : IVec si w) (upd : (⟨2, ![A, B]⟩ : Shape).Idx → α) (r0 c0 : Nat)
    (hs : ∀ k, d.start k idx 0 = (r0 : Int) ∧ d.start k idx 1 = (c0 : Int))
    (hw : ∀ k, d.window k 0 = (k 0).val ∧ d.window k 1 = (k 1).val) (r : Fin R) (c : Fin C) :
    Host.scatter d (fun _ b => b) x idx upd (ix2 r c)
      = if h : (r0 ≤ r.val ∧ r.val < r0 + A) ∧ c0 ≤ c.val ∧ c.val < c0 + B then
          upd (ix2 ⟨r.val - r0, by omega⟩ ⟨c.val - c0, by omega⟩)
        else x (ix2 r c) := by
  have lands : ∀ k : (⟨2, ![A, B]⟩ : Shape).Idx, d.resultIdx? k idx = some (ix2 r c) ↔ r0 + (k 0).val = r.val ∧ c0 + (k 1).val = c.val := by
    intro k
    rw [Routing.resultIdx?_eq_some]
    constructor
    · intro h
      have h0 : d.start k idx 0 + (d.window k 0 : Int) = (r.val : Int) := h 0
      have h1 : d.start k idx 1 + (d.window k 1 : Int) = (c.val : Int) := h 1
      rw [(hs k).1, (hw k).1] at h0
      rw [(hs k).2, (hw k).2] at h1
      exact ⟨by omega, by omega⟩
    · intro h a
      match a with
      | ⟨0, _⟩ =>
        show d.start k idx 0 + (d.window k 0 : Int) = (r.val : Int)
        rw [(hs k).1, (hw k).1]; omega
      | ⟨1, _⟩ =>
        show d.start k idx 1 + (d.window k 1 : Int) = (c.val : Int)
        rw [(hs k).2, (hw k).2]; omega
  split
  · next h =>
    refine Routing.scatter_set_hit d x idx upd _ _ (fun k hk => ?_) (ix2 ⟨r.val - r0, by omega⟩ ⟨c.val - c0, by omega⟩) ((lands _).2 ?_)
    · have hk' := (lands k).1 hk
      refine congrArg upd (funext fun a => Fin.ext ?_)
      match a with
      | ⟨0, _⟩ => show (k 0).val = r.val - r0; omega
      | ⟨1, _⟩ => show (k 1).val = c.val - c0; omega
    · show r0 + (r.val - r0) = r.val ∧ c0 + (c.val - c0) = c.val
      omega
  · next h =>
    refine Routing.scatter_set_miss d x idx upd _ fun k hk => h ?_
    have hk' := (lands k).1 hk
    have h0 : (k 0).val < A := (k 0).isLt
    have h1 : (k 1).val < B := (k 1).isLt
    omega

/-- The widened table at a row and lane: the table's entry on lanes 0 to 117, zero on the others. -/
theorem table_apply (aa : FVec Ideal S128x118 .f32) (r : Fin 128) (j : Fin 128) :
    table aa (ix2 r j) = if h : j.val < 118 then aa (ix2 r ⟨j.val, h⟩) else 0 := by
  unfold table
  rw [scatter_window (R := 128) (C := 128) (A := 128) (B := 118) _ _ _ _ 0 0 (fun k => ⟨rfl, rfl⟩) (fun k => ⟨rfl, rfl⟩)]
  by_cases h : j.val < 118
  · rw [dif_pos h, dif_pos (by omega)]
    rfl
  · rw [dif_neg h, dif_neg (by omega)]
    pointwise

/-- The first word of a pair. -/
theorem pair_zero (x y : BitVec 32) : pair x y (ix1 0) = x := by
  unfold pair
  rw [concatenate_pair_apply_left (0 : Fin S2.rank) (s₁ := S1) (s₂ := S1) _ _ _ (ix1 0) rfl (ix1 0) (fun b => by fin_cases b; rfl)]
  rfl

/-- The second word of a pair. -/
theorem pair_one (x y : BitVec 32) : pair x y (ix1 1) = y := by
  unfold pair
  rw [concatenate_pair_apply_right (0 : Fin S2.rank) (s₁ := S1) (s₂ := S1) _ _ _ (ix1 1) rfl rfl (ix1 0) (fun b => by fin_cases b; simp) rfl]
  rfl

/-- The identity at an entry. -/
theorem identity_apply (a b : Fin 6) : (identity (ix2 a b) : EReal) = if a = b then 1 else 0 := by
  have key : ∀ a b : Fin 6, IntOp.cmpi .eq (BitVec.ofNat 32 a.val + 0#32) (BitVec.ofNat 32 b.val) = if a = b then 1#1 else 0#1 := by decide
  show (FloatOps.uitofp (F := Ideal) .f32 (IntOp.cmpi .eq (BitVec.ofNat 32 a.val + 0#32) (BitVec.ofNat 32 b.val)) : EReal) = _
  rw [key a b]
  by_cases h : a = b
  · simp [h, FloatOps.uitofp]
  · simp [h, FloatOps.uitofp]

/-- The two words of a pair are the corner of a window written at it. -/
theorem start_pair {u : Shape} (d : ScatterDims S109x128 S2 u) (hsd : d.scatterDimsToOperandDims = [0, 1]) (hivd : d.indexVectorDim = 0)
    (x y : BitVec 32) (k : u.Idx) : d.start k (pair x y) 0 = x.toInt ∧ d.start k (pair x y) 1 = y.toInt :=
  ⟨(Routing.start_pair d hsd hivd (pair x y) k 0).trans (congrArg BitVec.toInt (pair_zero x y)),
    (Routing.start_pair d hsd hivd (pair x y) k 1).trans (congrArg BitVec.toInt (pair_one x y))⟩

/-- The copied lanes: feature `k` below 6 goes to lane `118 + k` with weight 1. -/
theorem copyLanes_apply (k : Fin 109) (j : Fin 128) :
    (copyLanes (ix2 k j) : EReal) = if k.val < 6 ∧ k.val + 118 = j.val then 1 else 0 := by
  unfold copyLanes
  rw [scatter_window (R := 109) (C := 128) (A := 6) (B := 6) _ _ _ _ 0 118
    (fun k => start_pair scatter_S109x128_S2_S6x6_01_n_01_0 rfl rfl 0#32 118#32 k) (fun k => ⟨rfl, rfl⟩)]
  split
  · next h =>
    rw [identity_apply]
    refine if_congr ?_ rfl rfl
    rw [Fin.ext_iff]
    show k.val - 0 = j.val - 118 ↔ _
    omega
  · next h =>
    rw [if_neg (by omega)]
    pointwise

/-- The projection at a feature and lane: features 0 to 5 are copied to lanes 118 to 123, features 6 to 108 are weighted onto
    lanes 124 and 125, and the other entries are zero. -/
theorem projection_apply (W : FVec Ideal S2x103 .f32) (k : Fin 109) (j : Fin 128) :
    (projection W (ix2 k j) : EReal)
      = if h : 6 ≤ k.val ∧ 124 ≤ j.val ∧ j.val < 126 then W (ix2 ⟨j.val - 124, by omega⟩ ⟨k.val - 6, by omega⟩)
        else if k.val < 6 ∧ k.val + 118 = j.val then 1 else 0 := by
  unfold projection
  rw [scatter_window (R := 109) (C := 128) (A := 103) (B := 2) _ _ _ _ 6 124
    (fun k => start_pair scatter_S109x128_S2_S103x2_01_n_01_0 rfl rfl 6#32 124#32 k) (fun k => ⟨rfl, rfl⟩), copyLanes_apply]
  by_cases h : 6 ≤ k.val ∧ 124 ≤ j.val ∧ j.val < 126
  · rw [dif_pos h, dif_pos (by omega)]
    pointwise
  · rw [dif_neg h, dif_neg (by omega)]

end Cert.Proof.Tables

end
-- ==== Proof.Spec.lean ====
/- The function both programs compute, one element at a time: 118 lanes of the looked-up table row, 6 copied modification
   features, 2 weighted sums of the other 103 features, the charge on the last 2 lanes, and the positional term on all 128. -/
module

public import Idealize.ShloMosaic.Lib.Pointwise

@[expose] public section

noncomputable section

namespace Cert.Proof.Spec

open Idealize.ShloMosaic
open scoped BigOperators

/-- The table row an index word names (the word itself, when it is below 128). -/
def row (w : BitVec 32) : Fin 128 := ⟨w.toNat % 128, Nat.mod_lt _ (by decide)⟩

/-- A word below 128 names the row of its own number. -/
theorem row_of_lt (w : BitVec 32) (h : w.toNat < 128) : row w = ⟨w.toNat, h⟩ := Fin.ext (Nat.mod_eq_of_lt h)

/-- The embedding before the positional term, at batch `b`, position `l`, lane `j`. -/
def lanes (idx : (⟨2, ![4096, 200]⟩ : Shape).Idx → BitVec 32) (mod : (⟨3, ![4096, 200, 109]⟩ : Shape).Idx → EReal)
    (charge : (⟨2, ![4096, 1]⟩ : Shape).Idx → EReal) (aa : (⟨2, ![128, 118]⟩ : Shape).Idx → EReal)
    (W : (⟨2, ![2, 103]⟩ : Shape).Idx → EReal) (b : Fin 4096) (l : Fin 200) (j : Fin 128) : EReal :=
  if h : j.val < 118 then aa (ix2 (row (idx (ix2 b l))) ⟨j.val, h⟩)
  else if h : j.val < 124 then mod (ix3 b l ⟨j.val - 118, by omega⟩)
  else if h : j.val < 126 then ∑ k : Fin 103, mod (ix3 b l ⟨6 + k.val, by omega⟩) * W (ix2 ⟨j.val - 124, by omega⟩ k)
  else charge (ix2 b 0)

/-- The embedding with its positional term. -/
def embed (idx : (⟨2, ![4096, 200]⟩ : Shape).Idx → BitVec 32) (mod : (⟨3, ![4096, 200, 109]⟩ : Shape).Idx → EReal)
    (charge : (⟨2, ![4096, 1]⟩ : Shape).Idx → EReal) (aa : (⟨2, ![128, 118]⟩ : Shape).Idx → EReal)
    (W : (⟨2, ![2, 103]⟩ : Shape).Idx → EReal) (pe : (⟨3, ![1, 200, 128]⟩ : Shape).Idx → EReal)
    (b : Fin 4096) (l : Fin 200) (j : Fin 128) : EReal :=
  lanes idx mod charge aa W b l j + pe (ix3 0 l j)

end Cert.Proof.Spec

end
-- ==== Proof.Equation.lean ====
/- The equation behind the kernel: the two products and the masked charge, added up, are the concatenated lanes. Each lane gets
   its value from exactly one of the three terms, and the other two are zero there. -/
module

public import proofs.«01_k».proof.Proof.Tables
public import proofs.«01_k».proof.Proof.Spec

@[expose] public section

noncomputable section

namespace Cert.Proof.Equation

open Idealize.ShloMosaic Cert.KernelIdeal Cert.KernelIdeal.Gen Cert.Proof.Prefix Cert.Proof.Tables
open scoped BigOperators

/-- On the table's lanes and on the charge's lanes the projection gives nothing. -/
theorem mix_zero (W : FVec Ideal S2x103 .f32) (x : Fin 109 → EReal) (j : Fin 128) (h : j.val < 118 ∨ 126 ≤ j.val) :
    (∑ k : Fin 109, x k * projection W (ix2 k j)) = 0 := by
  refine Finset.sum_eq_zero fun k _ => ?_
  rw [projection_apply, dif_neg (by omega), if_neg (by omega), mul_zero]

/-- On lanes 118 to 123 the projection copies the first six features. -/
theorem mix_copy (W : FVec Ideal S2x103 .f32) (x : Fin 109 → EReal) (j : Fin 128) (h : 118 ≤ j.val ∧ j.val < 124) :
    (∑ k : Fin 109, x k * projection W (ix2 k j)) = x ⟨j.val - 118, by omega⟩ := by
  rw [Finset.sum_eq_single (⟨j.val - 118, by omega⟩ : Fin 109)]
  · rw [projection_apply, dif_neg (by dsimp only; omega), if_pos (by dsimp only; omega), mul_one]
  · intro k _ hk
    have hk' : k.val ≠ j.val - 118 := fun e => hk (Fin.ext e)
    rw [projection_apply, dif_neg (by omega), if_neg (by omega), mul_zero]
  · intro hn
    exact absurd (Finset.mem_univ _) hn

/-- On lanes 124 and 125 the projection is the weighted sum of the other 103 features. -/
theorem mix_weighted (W : FVec Ideal S2x103 .f32) (x : Fin 109 → EReal) (j : Fin 128) (h : 124 ≤ j.val ∧ j.val < 126) :
    (∑ k : Fin 109, x k * projection W (ix2 k j)) = ∑ k : Fin 103, x ⟨6 + k.val, by omega⟩ * W (ix2 ⟨j.val - 124, by omega⟩ k) := by
  rw [show (∑ k : Fin 109, x k * projection W (ix2 k j)) = ∑ k : Fin (6 + 103), x k * projection W (ix2 k j) from rfl, Fin.sum_univ_add,
    Finset.sum_eq_zero, zero_add]
  · refine Finset.sum_congr rfl fun k _ => ?_
    have e : (Fin.natAdd 6 k).val = 6 + k.val := rfl
    rw [projection_apply, dif_pos (by omega)]
    refine congrArg (_ * W ·) ?_
    exact congrArg (ix2 _) (Fin.ext (Nat.add_sub_cancel_left 6 k.val))
  · intro k _
    have e : (Fin.castAdd 103 k).val = k.val := rfl
    have hk : k.val < 6 := k.isLt
    rw [projection_apply, dif_neg (by omega), if_neg (by omega), mul_zero]

/-- The kernel's four terms at one element are the specification's embedding there. -/
theorem terms_eq_embed (idx : (⟨2, ![4096, 200]⟩ : Shape).Idx → BitVec 32) (mod : (⟨3, ![4096, 200, 109]⟩ : Shape).Idx → EReal)
    (charge : (⟨2, ![4096, 1]⟩ : Shape).Idx → EReal) (aa : FVec Ideal S128x118 .f32) (W : FVec Ideal S2x103 .f32)
    (pe : (⟨3, ![1, 200, 128]⟩ : Shape).Idx → EReal) (b : Fin 4096) (l : Fin 200) (j : Fin 128) :
    (table aa (ix2 (Spec.row (idx (ix2 b l))) j) : EReal) + (∑ k : Fin 109, mod (ix3 b l k) * projection W (ix2 k j)) + pe (ix3 0 l j)
        + (if 126 ≤ j.val then charge (ix2 b 0) else 0)
      = Spec.embed idx mod charge aa W pe b l j := by
  unfold Spec.embed Spec.lanes
  rw [table_apply]
  by_cases h1 : j.val < 118
  · rw [dif_pos h1, dif_pos h1, mix_zero W (fun k => mod (ix3 b l k)) j (by omega), if_neg (by omega), add_zero, add_zero]
  rw [dif_neg h1, dif_neg h1, zero_add]
  by_cases h2 : j.val < 124
  · rw [dif_pos h2, mix_copy W (fun k => mod (ix3 b l k)) j (by omega), if_neg (by omega), add_zero]
  rw [dif_neg h2]
  by_cases h3 : j.val < 126
  · rw [dif_pos h3, mix_weighted W (fun k => mod (ix3 b l k)) j (by omega), if_neg (by omega), add_zero]
  · rw [dif_neg h3, mix_zero W (fun k => mod (ix3 b l k)) j (by omega), if_pos (by omega), zero_add, add_comm]

end Cert.Proof.Equation

end
-- ==== Proof.Array.lean ====
/- What the kernel's output array holds after the run: the specification's embedding of the arguments, when every index word
   names a row of the table. Grid point `t` writes batches `64 t` to `64 t + 63`. -/
module

public import proofs.«01_k».proof.Proof.Block
public import proofs.«01_k».proof.Proof.Equation
public import proofs.«01_k».proof.Proof.Gen.KernelIdeal.Value

@[expose] public section

noncomputable section

namespace Cert.Proof.Array

open Idealize.ShloMosaic Idealize.ShloMosaic.TcCoe Idealize.SL.Sem Cert.KernelIdeal Cert.KernelIdeal.Gen
open Cert.Proof.Prefix

variable (m : (ℓ : Loc nD τ sig) → Buf (Elt Ideal) ℓ) (c : Dev nD)

/-- The embedding of device `c`'s arguments, as a whole array. -/
def result : Buf (Elt Ideal) ((c : Thread nD τ).loc main_v0) := fun i : S4096x200x128.Idx =>
  (Spec.embed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (i 0) (i 1) (i 2) : EReal)

/-! ## Where each window's block lies -/

/-- The grid has 64 points. -/
theorem lt_64 (t : Fin cfg0.N) : t.val < 64 := N_0 ▸ t.isLt

/-- Batch `b` of the block of point `t`. -/
def batch (t : Fin cfg0.N) (b : Fin 64) : Fin 4096 := ⟨t.val * 64 + b.val, by have := lt_64 t; omega⟩

/-- The block indices: the grid point on the batch axis, zero on the others and for the three whole arrays. -/
theorem index_facts : ∀ t : Fin cfg0.N,
    (win0_0.index t 0 = t.val ∧ win0_0.index t 1 = 0)
    ∧ (win0_1.index t 0 = t.val ∧ win0_1.index t 1 = 0 ∧ win0_1.index t 2 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0 ∧ win0_6.index t 2 = 0) :=
  (by decide +kernel : ∀ t : Fin grid0.N,
    (win0_0.index t 0 = t.val ∧ win0_0.index t 1 = 0)
    ∧ (win0_1.index t 0 = t.val ∧ win0_1.index t 1 = 0 ∧ win0_1.index t 2 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0 ∧ win0_6.index t 2 = 0))

/-- The block of index words at point `t`. -/
theorem idx_block (t : Fin cfg0.N) (b : Fin 64) (l : Fin 200) :
    iblk m c 0 t (ix2 b l) = m ((c : Thread nD τ).loc main_arg0) (ix2 (batch t b) l) := by
  show V m c main_arg0 ((win0_0.rect t).emb (ix2 b l)) = _
  rw [V_main_arg0]
  refine congrArg (m ((c : Thread nD τ).loc main_arg0)) (funext fun a => Fin.ext ?_)
  have h := (index_facts t).1
  match a with
  | ⟨0, _⟩ => exact (win0_0.rect_emb_val t (ix2 b l) 0).trans (by rw [h.1]; rfl)
  | ⟨1, _⟩ => exact (win0_0.rect_emb_val_of_index_zero t 1 h.2 (ix2 b l)).trans rfl

/-- The block of modification features at point `t`. -/
theorem mod_block (t : Fin cfg0.N) (b : Fin 64) (l : Fin 200) (k : Fin 109) :
    iblk m c 1 t (ix3 b l k) = m ((c : Thread nD τ).loc main_arg1) (ix3 (batch t b) l k) := by
  show V m c main_arg1 ((win0_1.rect t).emb (ix3 b l k)) = _
  rw [V_main_arg1]
  refine congrArg (m ((c : Thread nD τ).loc main_arg1)) (funext fun a => Fin.ext ?_)
  have h := (index_facts t).2.1
  match a with
  | ⟨0, _⟩ => exact (win0_1.rect_emb_val t (ix3 b l k) 0).trans (by rw [h.1]; rfl)
  | ⟨1, _⟩ => exact (win0_1.rect_emb_val_of_index_zero t 1 h.2.1 (ix3 b l k)).trans rfl
  | ⟨2, _⟩ => exact (win0_1.rect_emb_val_of_index_zero t 2 h.2.2 (ix3 b l k)).trans rfl

/-- The block of charges at point `t`. -/
theorem charge_block (t : Fin cfg0.N) (b : Fin 64) :
    iblk m c 2 t (ix2 b 0) = m ((c : Thread nD τ).loc main_arg2) (ix2 (batch t b) 0) := by
  show V m c main_arg2 ((win0_2.rect t).emb (ix2 b 0)) = _
  rw [V_main_arg2]
  refine congrArg (m ((c : Thread nD τ).loc main_arg2)) (funext fun a => Fin.ext ?_)
  have h := (index_facts t).2.2.1
  match a with
  | ⟨0, _⟩ => exact (win0_2.rect_emb_val t (ix2 b 0) 0).trans (by rw [h.1]; rfl)
  | ⟨1, _⟩ => exact (win0_2.rect_emb_val_of_index_zero t 1 h.2 (ix2 b 0)).trans rfl

/-- Over the extended reals narrowing an array to bf16 changes no element. -/
theorem narrow_apply {s : Shape} (x : FVec Ideal s .f32) (i : s.Idx) : (truncf .bf16 x bitsLt_bf16_f32 i : EReal) = x i := rfl

/-- The widened table is one block, the same at every point. -/
theorem table_block (t : Fin cfg0.N) (r j : Fin 128) :
    iblk m c 3 t (ix2 r j) = table (m ((c : Thread nD τ).loc main_arg3)) (ix2 r j) := by
  have e : iblk m c 3 t (ix2 r j) = V m c main_call0_v19 ((win0_3.rect t).emb (ix2 r j)) := rfl
  refine (e.trans (congrFun (V_table m c) _)).trans ((narrow_apply _ _).trans ?_)
  refine congrArg (table (m ((c : Thread nD τ).loc main_arg3))) (funext fun a => Fin.ext ?_)
  have h := (index_facts t).2.2.2.1
  match a with
  | ⟨0, _⟩ => exact (win0_3.rect_emb_val_of_index_zero t 0 h.1 (ix2 r j)).trans rfl
  | ⟨1, _⟩ => exact (win0_3.rect_emb_val_of_index_zero t 1 h.2 (ix2 r j)).trans rfl

/-- The projection is one block, the same at every point. -/
theorem projection_block (t : Fin cfg0.N) (k : Fin 109) (j : Fin 128) :
    iblk m c 4 t (ix2 k j) = projection (m ((c : Thread nD τ).loc main_arg4)) (ix2 k j) := by
  have e : iblk m c 4 t (ix2 k j) = V m c main_call0_v20 ((win0_4.rect t).emb (ix2 k j)) := rfl
  refine (e.trans (congrFun (V_projection m c) _)).trans ((narrow_apply _ _).trans ?_)
  refine congrArg (projection (m ((c : Thread nD τ).loc main_arg4))) (funext fun a => Fin.ext ?_)
  have h := (index_facts t).2.2.2.2.1
  match a with
  | ⟨0, _⟩ => exact (win0_4.rect_emb_val_of_index_zero t 0 h.1 (ix2 k j)).trans rfl
  | ⟨1, _⟩ => exact (win0_4.rect_emb_val_of_index_zero t 1 h.2 (ix2 k j)).trans rfl

/-- `pe` without its unit axis, read at an entry. -/
theorem pe_apply (pe : FVec Ideal S1x200x128 .f32) (l : Fin 200) (j : Fin 128) :
    shapeCast S200x128 pe shapeCasts_S1x200x128_S200x128 (ix2 l j) = pe (ix3 0 l j) := by
  pointwise

/-- The positional term is one block, the same at every point. -/
theorem pe_block (t : Fin cfg0.N) (l : Fin 200) (j : Fin 128) :
    iblk m c 5 t (ix2 l j) = m ((c : Thread nD τ).loc main_arg5) (ix3 0 l j) := by
  show V m c main_call0_v21 ((win0_5.rect t).emb (ix2 l j)) = _
  rw [V_pe]
  refine Eq.trans (congrArg (shapeCast S200x128 (m ((c : Thread nD τ).loc main_arg5)) shapeCasts_S1x200x128_S200x128)
    (funext fun a => Fin.ext ?_)) (pe_apply (m ((c : Thread nD τ).loc main_arg5)) l j)
  have h := (index_facts t).2.2.2.2.2.1
  match a with
  | ⟨0, _⟩ => exact (win0_5.rect_emb_val_of_index_zero t 0 h.1 (ix2 l j)).trans rfl
  | ⟨1, _⟩ => exact (win0_5.rect_emb_val_of_index_zero t 1 h.2 (ix2 l j)).trans rfl

/-! ## What a point writes, and the array its blocks make up -/

/-- Every index word of device `c`'s first argument names a row of the table. -/
def InTable : Prop :=
  ∀ (b : Fin 4096) (l : Fin 200), BitVec.toNat (w := 32) (m ((c : Thread nD τ).loc main_arg0) (ix2 b l)) < 128

/-- The body's result at point `t`, read at one element: the embedding of that batch. -/
theorem out_apply (hp : InTable m c) (t : Fin cfg0.N) (b : Fin 64) (l : Fin 200) (j : Fin 128) :
    out0_6 (iblk m c 0 t) (iblk m c 1 t) (iblk m c 2 t) (iblk m c 3 t) (iblk m c 4 t) (iblk m c 5 t) (ix3 b l j)
      = result m c (ix3 (batch t b) l j) := by
  have z2 : (![0, 0] : Fin 2 → Nat) = fun _ => 0 := funext fun a => by fin_cases a <;> rfl
  have z3 : (![0, 0, 0] : Fin 3 → Nat) = fun _ => 0 := funext fun a => by fin_cases a <;> rfl
  have hw := hp (batch t b) l
  rw [← idx_block m c t b l] at hw
  unfold out0_6
  rw [View.canon_unit_zero z3, View.ld_unit_zero z2, View.ld_unit_zero z3, View.ld_unit_zero z2, View.ld_unit_zero z2,
    View.ld_unit_zero z2, View.ld_unit_zero z2]
  refine (Block.payload_apply _ _ _ _ _ _ b l j hw).trans ?_
  rw [charge_block, pe_block, table_block, ← Spec.row_of_lt _ hw, idx_block]
  simp only [mod_block, projection_block]
  exact Equation.terms_eq_embed _ _ _ _ _ _ (batch t b) l j

/-- Point `t` writes back its block of the embedding. -/
theorem flushed_eq (hp : InTable m c) (t : Fin cfg0.N) :
    (dats m 0 c).flushed 6 t = ((cfg0.win 6).blk t).view.read (Elt Ideal) (result m c) := by
  rw [Value.flushed6]
  funext y
  obtain ⟨b, l, j, rfl⟩ : ∃ (b : Fin 64) (l : Fin 200) (j : Fin 128), y = ix3 b l j := ⟨y 0, y 1, y 2, by
    funext a; match a with | ⟨0, _⟩ => rfl | ⟨1, _⟩ => rfl | ⟨2, _⟩ => rfl⟩
  refine Eq.trans (out_apply m c hp t b l j) ?_
  show _ = result m c ((win0_6.rect t).emb (ix3 b l j))
  refine congrArg (result m c) (funext fun a => Fin.ext ?_)
  have h := (index_facts t).2.2.2.2.2.2
  match a with
  | ⟨0, _⟩ => exact ((win0_6.rect_emb_val t (ix3 b l j) 0).trans (by rw [h.1]; rfl)).symm
  | ⟨1, _⟩ => exact ((win0_6.rect_emb_val_of_index_zero t 1 h.2.1 (ix3 b l j)).trans rfl).symm
  | ⟨2, _⟩ => exact ((win0_6.rect_emb_val_of_index_zero t 2 h.2.2 (ix3 b l j)).trans rfl).symm

/-- Every element of the output array lies in the block of some point. -/
theorem covered (i : S4096x200x128.Idx) : ∃ t : Fin cfg0.N, (cfg0.win 6).flush t = true ∧ i ∈ ((cfg0.win 6).blk t).view.set := by
  have h0 : (i 0).val < 4096 := (i 0).isLt
  have hN : cfg0.N = 64 := N_0
  have ht : (i 0).val / 64 < cfg0.N := by omega
  obtain ⟨t, et⟩ : ∃ t : Fin cfg0.N, t.val = (i 0).val / 64 := ⟨⟨_, ht⟩, rfl⟩
  have h := (index_facts t).2.2.2.2.2.2
  have e : (win0_6.rect t).emb (ix3 (⟨(i 0).val % 64, Nat.mod_lt _ (by decide)⟩ : Fin 64) (i 1) (i 2)) = i :=
    funext fun a => Fin.ext (by
      match a with
      | ⟨0, _⟩ =>
        refine (win0_6.rect_emb_val t _ 0).trans ?_
        rw [h.1]
        show t.val * 64 + (i 0).val % 64 = (i 0).val
        omega
      | ⟨1, _⟩ => exact (win0_6.rect_emb_val_of_index_zero t 1 h.2.1 _).trans rfl
      | ⟨2, _⟩ => exact (win0_6.rect_emb_val_of_index_zero t 2 h.2.2 _).trans rfl)
  refine ⟨t, flush0_6 t, ?_⟩
  have hm := ((cfg0.win 6).blk t).view.emb_mem_set (ix3 (⟨(i 0).val % 64, Nat.mod_lt _ (by decide)⟩ : Fin 64) (i 1) (i 2))
  exact (congrArg (· ∈ ((cfg0.win 6).blk t).view.set) e).mp hm

/-- After the run the output array is the embedding of the arguments. -/
theorem final (hp : InTable m c) : (dats m 0 c).arrAt 6 cfg0.N = result m c :=
  (dats m 0 c).arrAt_eq_of_cover 6 (result m c) (fun t _ => flushed_eq m c hp t) covered

end Cert.Proof.Array

end
-- ==== Proof.Lookup.lean ====
/- The reference's table lookup, read at one element: when the index word names a row of the table, the lookup is that row. The
   reference wraps a negative word, clamps the row, and replaces an out-of-range row by NaN; none of the three happens here. -/
module

public import proofs.«01_k».proof.Proof.Spec
public import proofs.«01_k».proof.Proof.Gen.ReferenceIdeal.Read
public import Idealize.ShloMosaic.Lib.ReduceAll

@[expose] public section

noncomputable section

namespace Cert.Proof.Lookup

open Idealize.ShloMosaic Cert.ReferenceIdeal Cert.ReferenceIdeal.Gen Cert.ReferenceIdeal.Read

/-- What the reference's comparisons say of a word that names a row: it is not negative, it is at least 0 and at most 127, and
    clamping it leaves it. -/
theorem word_facts (w : BitVec 32) (h : w.toNat < 128) :
    IntOp.cmpi .slt w 0#32 = 0#1 ∧ IntOp.cmpi .sge w 0#32 = 1#1 ∧ IntOp.cmpi .sle w 127#32 = 1#1 ∧ min w.toInt.toNat 127 = w.toNat := by
  have key : ∀ n : Fin 128, IntOp.cmpi .slt (BitVec.ofNat 32 n.val) 0#32 = 0#1 ∧ IntOp.cmpi .sge (BitVec.ofNat 32 n.val) 0#32 = 1#1
      ∧ IntOp.cmpi .sle (BitVec.ofNat 32 n.val) 127#32 = 1#1
      ∧ min (BitVec.ofNat 32 n.val).toInt.toNat 127 = (BitVec.ofNat 32 n.val).toNat := by decide
  have e : BitVec.ofNat 32 w.toNat = w := by simp
  have k := key ⟨w.toNat, h⟩
  rw [e] at k
  exact k

/-- The gather at an element: the operand's row at the start word, read signed and clamped to the table, in the same column. -/
theorem gather_apply (x : FVec Ideal S128x118 .f32) (I : IVec S4096x200x1 32) (b : Fin 4096) (l : Fin 200) (j : Fin 118) :
    Host.gather gather_S128x118_S4096x200x1_S4096x200x118_2_0_n_n_0_2_1118 x I (ix3 b l j)
      = x (ix2 ⟨min (I (ix3 b l 0)).toInt.toNat 127, by omega⟩ j) := by
  unfold Host.gather
  refine congrArg x (funext fun a => Fin.ext ?_)
  have hsi : ∀ k, gather_S128x118_S4096x200x1_S4096x200x118_2_0_n_n_0_2_1118.siIdx (ix3 b l j) k = ix3 b l 0 := fun k => by
    funext a; refine Fin.ext ?_
    match a with
    | ⟨0, _⟩ => rfl
    | ⟨1, _⟩ => rfl
    | ⟨2, _⟩ => exact Nat.lt_one_iff.1 (Fin.isLt _)
  match a with
  | ⟨0, _⟩ =>
    show gather_S128x118_S4096x200x1_S4096x200x118_2_0_n_n_0_2_1118.start (ix3 b l j) I 0 + 0 + 0 = _
    unfold GatherDims.start
    rw [dif_pos (by decide), hsi]
    rfl
  | ⟨1, _⟩ =>
    show gather_S128x118_S4096x200x1_S4096x200x118_2_0_n_n_0_2_1118.start (ix3 b l j) I 1 + 0 + j.val = _
    unfold GatherDims.start
    rw [dif_neg (by decide)]
    exact Nat.zero_add j.val

/-- The word the reference looks up is the index word itself: it is not negative, so it is not wrapped. -/
theorem word_apply (idx : IVec S4096x200 32) (b : Fin 4096) (l : Fin 200) (h : (idx (ix2 b l)).toNat < 128) :
    val_main_call0_v5 (F := Ideal) idx (ix3 b l 0) = idx (ix2 b l) := by
  rw [val_main_call0_v5_apply]
  have e : idx_main_call0_v5 (ix3 b l 0) = ix2 b l := by
    funext a; match a with | ⟨0, _⟩ => rfl | ⟨1, _⟩ => rfl
  rw [e, val_main_call0_v4_apply, val_main_call0_v1_apply, val_main_call0_v0_apply, val_main_call0_c_apply, (word_facts _ h).1]
  rfl

/-- When every word names a row, the in-range flag of every position is set. -/
theorem flag_apply (idx : IVec S4096x200 32) (h : ∀ (b : Fin 4096) (l : Fin 200), (idx (ix2 b l)).toNat < 128) (i : S4096x200.Idx) :
    val_main_call0_v12 (F := Ideal) idx i = 1#1 := by
  refine Host.reduce_andi_one _ _ _ _ i rfl fun q => ?_
  obtain ⟨b, l, rfl⟩ : ∃ (b : Fin 4096) (l : Fin 200), q = ix3 b l 0 := ⟨q 0, q 1, by
    funext a; match a with | ⟨0, _⟩ => rfl | ⟨1, _⟩ => rfl | ⟨2, _⟩ => exact Subsingleton.elim (α := Fin 1) _ _⟩
  rw [val_main_call0_v11_apply, val_main_call0_v7_apply, val_main_call0_v10_apply, val_main_call0_v6_apply, val_main_call0_c_2_apply,
    val_main_call0_v9_apply, val_main_call0_v8_apply, val_main_call0_c_1_apply, word_apply idx b l (h b l), (word_facts _ (h b l)).2.1,
    (word_facts _ (h b l)).2.2.1]
  rfl

/-- The lookup at an element is the named row's. -/
theorem take_apply (idx : IVec S4096x200 32) (aa : FVec Ideal S128x118 .f32) (b : Fin 4096) (l : Fin 200) (j : Fin 118)
    (h : ∀ (b : Fin 4096) (l : Fin 200), (idx (ix2 b l)).toNat < 128) :
    (val_main_v5 (F := Ideal) idx aa (ix3 b l j) : EReal) = aa (ix2 (Spec.row (idx (ix2 b l))) j) := by
  rw [val_main_v5_apply, val_main_call0_v14_apply]
  have e : idx_main_call0_v14 (ix3 b l j) = ix2 b l := by
    funext a; match a with | ⟨0, _⟩ => rfl | ⟨1, _⟩ => rfl
  rw [e, flag_apply idx h]
  refine Eq.trans (b := val_main_call0_v13 (F := Ideal) idx aa (ix3 b l j)) rfl ?_
  unfold val_main_call0_v13
  rw [gather_apply, Spec.row_of_lt _ (h b l)]
  refine congrArg (fun r => aa (ix2 r j)) (Fin.ext ?_)
  show min (val_main_call0_v5 (F := Ideal) idx (ix3 b l 0)).toInt.toNat 127 = (idx (ix2 b l)).toNat
  rw [word_apply idx b l (h b l), (word_facts _ (h b l)).2.2.2]

end Cert.Proof.Lookup

end
-- ==== Proof.Reference.lean ====
/- The reference's result, read at one element: the specification's embedding of the arguments, when every index word names a
   row of the table. -/
module

public import proofs.«01_k».proof.Proof.Lookup
public import Idealize.ShloMosaic.Lib.ValueIdxRank6
public import Idealize.ShloMosaic.Lib.Pipeline.Value

@[expose] public section

noncomputable section

namespace Cert.Proof.Reference

open Idealize.ShloMosaic Cert.ReferenceIdeal Cert.ReferenceIdeal.Gen Cert.ReferenceIdeal.Read
open scoped BigOperators

variable (idx : IVec S4096x200 32) (mod : FVec Ideal S4096x200x109 .f32) (charge : FVec Ideal S4096x1 .f32)
  (aa : FVec Ideal S128x118 .f32) (W : FVec Ideal S2x103 .f32) (pe : FVec Ideal S1x200x128 .f32)

/-- The copied features: the first six of the row. -/
theorem copied_apply (b : Fin 4096) (l : Fin 200) (k : Fin 8) (h : k.val < 6) :
    (val_main_v4 (F := Ideal) mod W (ix3 b l k) : EReal) = mod (ix3 b l ⟨k.val, by omega⟩) := by
  unfold val_main_v4
  rw [concatenate_pair_apply_left (t := S4096x200x8) (2 : Fin 3) _ _ concatenates_S4096x200x6_S4096x200x2_S4096x200x8_d2 (ix3 b l k) rfl
    (ix3 b l ⟨k.val, h⟩) (fun a => by match a with | ⟨0, _⟩ => rfl | ⟨1, _⟩ => rfl | ⟨2, _⟩ => rfl), val_main_v0_apply]
  refine congrArg mod (funext fun a => Fin.ext ?_)
  match a with
  | ⟨0, _⟩ => rfl
  | ⟨1, _⟩ => rfl
  | ⟨2, _⟩ => rfl

/-- The weighted features: each of the two lanes is a sum over the other 103 features of the row. -/
theorem weighted_apply (b : Fin 4096) (l : Fin 200) (k : Fin 8) (h : 6 ≤ k.val) :
    (val_main_v4 (F := Ideal) mod W (ix3 b l k) : EReal)
      = ∑ q : Fin 103, mod (ix3 b l ⟨6 + q.val, by omega⟩) * W (ix2 ⟨k.val - 6, by omega⟩ q) := by
  unfold val_main_v4
  rw [concatenate_pair_apply_right (t := S4096x200x8) (2 : Fin 3) _ _ concatenates_S4096x200x6_S4096x200x2_S4096x200x8_d2 (ix3 b l k) rfl rfl
    (ix3 b l ⟨k.val - 6, by omega⟩)
    (fun a ha => by match a, ha with | ⟨0, _⟩, _ => rfl | ⟨1, _⟩, _ => rfl | ⟨2, _⟩, ha => exact absurd rfl ha)
    (by show k.val - 6 + 6 = k.val; omega), val_main_v3_apply]
  refine Finset.sum_congr rfl fun q _ => ?_
  rw [val_main_v1_apply, val_main_v2_apply]
  refine congrArg₂ (· * ·) (congrArg mod (funext fun a => Fin.ext ?_)) (congrArg W (funext fun a => Fin.ext ?_))
  · match a with
    | ⟨0, _⟩ => rfl
    | ⟨1, _⟩ => rfl
    | ⟨2, _⟩ => rfl
  · match a with
    | ⟨0, _⟩ => rfl
    | ⟨1, _⟩ => rfl

/-- The charge repeated over positions and over two lanes. -/
theorem charge_apply (b : Fin 4096) (l : Fin 200) (k : Fin 2) :
    (val_main_v9 (F := Ideal) charge (ix3 b l k) : EReal) = charge (ix2 b 0) := by
  unfold val_main_v9
  rw [shapeCast_apply _ _ (ix3 b l k) (ValueIdx.ix6 0 b l 0 k 0) (by
    rw [Shape.rowMajor_val_six, Shape.rowMajor_val_three]
    show ((((0 * 4096 + b.val) * 200 + l.val) * 1 + 0) * 2 + k.val) * 1 + 0 = (b.val * 200 + l.val) * 2 + k.val
    omega), val_main_v8_apply]
  unfold val_main_v7
  rw [shapeCast_apply _ _ _ (ix3 b 0 0) (by
    rw [Shape.rowMajor_val_six, Shape.rowMajor_val_three]
    show (b.val * 1 + 0) * 1 + 0 = ((((0 * 4096 + b.val) * 1 + 0) * 1 + 0) * 1 + 0) * 1 + 0
    omega), val_main_v6_apply]
  refine congrArg charge (funext fun a => Fin.ext ?_)
  match a with
  | ⟨0, _⟩ => rfl
  | ⟨1, _⟩ => rfl

/-- The three joined pieces at an element are the specification's lanes. -/
theorem lanes_apply (h : ∀ (b : Fin 4096) (l : Fin 200), (idx (ix2 b l)).toNat < 128) (b : Fin 4096) (l : Fin 200) (j : Fin 128) :
    (val_main_v10 (F := Ideal) idx mod charge aa W (ix3 b l j) : EReal) = Spec.lanes idx mod charge aa W b l j := by
  unfold val_main_v10 Spec.lanes
  by_cases h1 : j.val < 118
  · rw [dif_pos h1, ← Lookup.take_apply idx aa b l ⟨j.val, h1⟩ h]
    exact concatenate_apply_piece (t := S4096x200x128) (2 : Fin 3) _ _ (ix3 b l j) 0 (by simp) S4096x200x118 _ rfl rfl 0 rfl
      (ix3 b l ⟨j.val, h1⟩)
      (fun a ha => by match a, ha with | ⟨0, _⟩, _ => rfl | ⟨1, _⟩, _ => rfl | ⟨2, _⟩, ha => exact absurd rfl ha)
      (Nat.zero_add _)
  rw [dif_neg h1]
  by_cases h3 : j.val < 126
  · have piece := concatenate_apply_piece (t := S4096x200x128) (2 : Fin 3)
      [⟨S4096x200x118, val_main_v5 (F := Ideal) idx aa⟩, ⟨S4096x200x8, val_main_v4 (F := Ideal) mod W⟩, ⟨S4096x200x2, val_main_v9 (F := Ideal) charge⟩]
      concatenates_S4096x200x118_S4096x200x8_S4096x200x2_S4096x200x128_d2 (ix3 b l j) 1 (by simp) S4096x200x8 (val_main_v4 (F := Ideal) mod W)
      rfl rfl 118 rfl (ix3 b l ⟨j.val - 118, by omega⟩)
      (fun a ha => by match a, ha with | ⟨0, _⟩, _ => rfl | ⟨1, _⟩, _ => rfl | ⟨2, _⟩, ha => exact absurd rfl ha)
      (by show 118 + (j.val - 118) = j.val; omega)
    refine piece.trans ?_
    by_cases h2 : j.val < 124
    · rw [dif_pos h2, copied_apply mod W b l _ (by dsimp only; omega)]
    · rw [dif_neg h2, dif_pos h3, weighted_apply mod W b l _ (by dsimp only; omega)]
      refine Finset.sum_congr rfl fun q _ => ?_
      refine congrArg (fun r => mod _ * W (ix2 r q)) (Fin.ext ?_)
      show j.val - 118 - 6 = j.val - 124
      omega
  · rw [dif_neg (by omega), dif_neg h3, ← charge_apply charge b l ⟨j.val - 126, by omega⟩]
    exact concatenate_apply_piece (t := S4096x200x128) (2 : Fin 3) _ _ (ix3 b l j) 2 (by simp) S4096x200x2 _ rfl rfl 126 rfl
      (ix3 b l ⟨j.val - 126, by omega⟩)
      (fun a ha => by match a, ha with | ⟨0, _⟩, _ => rfl | ⟨1, _⟩, _ => rfl | ⟨2, _⟩, ha => exact absurd rfl ha)
      (by show 126 + (j.val - 126) = j.val; omega)

/-- The reference's result at an element is the specification's embedding there. -/
theorem result_apply (h : ∀ (b : Fin 4096) (l : Fin 200), (idx (ix2 b l)).toNat < 128) (b : Fin 4096) (l : Fin 200) (j : Fin 128) :
    (val_main_v12 (F := Ideal) idx mod charge aa W pe (ix3 b l j) : EReal) = Spec.embed idx mod charge aa W pe b l j := by
  rw [val_main_v12_apply, val_main_v11_apply, lanes_apply idx mod charge aa W h b l j]
  refine congrArg (fun i => Spec.lanes idx mod charge aa W b l j + pe i) (funext fun a => ?_)
  match a with
  | ⟨0, _⟩ => rfl
  | ⟨1, _⟩ => rfl
  | ⟨2, _⟩ => rfl

end Cert.Proof.Reference

end
-- ==== Proof.Precondition.lean ====
/- The stated precondition: the shape relations its text uses, and what it says of the index words. -/
module

public import proofs.«01_k».proof.Defs
public import proofs.«01_k».proof.Proof.Array
public import Idealize.ShloMosaic.Lib.ReduceAll
public import Idealize.ShloMosaic.Lib.Affine

@[expose] public section

noncomputable section

namespace Cert.Proof.Precondition

open Idealize.ShloMosaic Idealize.ShloMosaic.TcCoe

/-- The shape relations of the precondition's operations. -/
instance facts : Cert.Pre_indices_in_table.Facts := ⟨by decide, by decide, by decide⟩

/-- A word whose signed value lies in `[0, 128)` has its unsigned value below 128. -/
theorem toNat_lt (x : BitVec 32) (h0 : 0 ≤ x.toInt) (h1 : x.toInt < 128) : x.toNat < 128 := by
  have h := BitVec.toInt_eq_toNat_cond x
  have hx := x.isLt
  split at h <;> omega

/-- Where the precondition's value is true, every index word is below 128. -/
theorem words (idx : IVec Cert.Pre_indices_in_table.S4096x200 32) (mod : FVec Ideal Cert.Pre_indices_in_table.S4096x200x109 .f32)
    (charge : FVec Ideal Cert.Pre_indices_in_table.S4096x1 .f32) (aa : FVec Ideal Cert.Pre_indices_in_table.S128x118 .f32)
    (W : FVec Ideal Cert.Pre_indices_in_table.S2x103 .f32) (pe : FVec Ideal Cert.Pre_indices_in_table.S1x200x128 .f32)
    (h : Cert.Pre_indices_in_table.fn (F := Ideal) idx mod charge aa W pe = fun _ => 1#1)
    (i : Cert.Pre_indices_in_table.S4096x200.Idx) : BitVec.toNat (w := 32) (idx i) < 128 := by
  haveI : Subsingleton Cert.Pre_indices_in_table.S_.Idx := ⟨fun a b => funext fun k => k.elim0⟩
  have hb := Host.reduce_andi_all _ _ _ _ (fun k => k.elim0) (congrFun h fun k => k.elim0) i
  obtain ⟨h0, h1⟩ := (IntOp.andi_eq_one).mp hb
  exact toNat_lt (idx i) (IntOp.cmpi_sge.mp h0) (IntOp.cmpi_slt.mp h1)

/-- The precondition on the kernel's arguments puts every index word in the table. -/
theorem inTable (m : (ℓ : Loc Cert.KernelIdeal.nD Cert.KernelIdeal.τ Cert.KernelIdeal.sig) → Buf (Elt Ideal) ℓ)
    (h : Cert.Pre_KernelIdeal_indices_in_table m) (c : Dev Cert.KernelIdeal.nD) : Array.InTable m c := fun b l =>
  words _ _ _ _ _ _ (h c) (ix2 b l)

end Cert.Proof.Precondition

end
-- ==== Proof.lean ====
/- The certificate: the kernel leaves its arguments alone and returns every counter to zero, and its result over the extended
   reals is the reference's wherever every index word names a row of the table.

   Both results are the one function `Spec.embed` of the six arguments (Proof/Spec.lean). The kernel's side is `Array.final`:
   the one-hot product picks a table row (Proof/Block.lean), the projection matrix the host prepares holds the copied features
   and the two weight rows (Proof/Prefix.lean, Proof/Tables.lean), their sum is the specification's lane (Proof/Equation.lean),
   and the 64 blocks cover the result (Proof/Array.lean). The reference's side is `Reference.result_apply`: its gather picks the
   same row (Proof/Lookup.lean), and its concatenations lay out the same lanes (Proof/Reference.lean). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Reference
public import proofs.«01_k».proof.Proof.Precondition
public import Idealize.ShloMosaic.Lib.Quiescent

@[expose] public section

noncomputable section

namespace Cert.Proof

open Idealize.ShloMosaic Idealize.ShloMosaic.TcCoe Idealize.SL.Sem

/-- The reference keeps its arguments, and it has no semaphore to leave raised. -/
theorem reference_quiescent : Cert.quiescent_ReferenceIdeal := fun m g _ =>
  (θ_run _ _ _).mono (fun r h => ⟨fun c => (h c).2, sem_eq_zero_of_no_sems rfl r.2⟩) (Cert.ReferenceIdeal.Value.run (F := Ideal) m g)

/-- The same, from memories meeting the precondition. -/
theorem reference_quiescent_pre : Cert.quiescent_ReferenceIdeal_pre_indices_in_table := fun m g _ =>
  reference_quiescent m g trivial

/-- The reference's term, as a whole array, is the embedding of its arguments. -/
theorem reference_value (idx : IVec Cert.ReferenceIdeal.S4096x200 32) (mod : FVec Ideal Cert.ReferenceIdeal.S4096x200x109 .f32)
    (charge : FVec Ideal Cert.ReferenceIdeal.S4096x1 .f32) (aa : FVec Ideal Cert.ReferenceIdeal.S128x118 .f32)
    (W : FVec Ideal Cert.ReferenceIdeal.S2x103 .f32) (pe : FVec Ideal Cert.ReferenceIdeal.S1x200x128 .f32)
    (h : ∀ (b : Fin 4096) (l : Fin 200), (idx (ix2 b l)).toNat < 128) :
    Cert.ReferenceIdeal.Read.val_main_v12 (F := Ideal) idx mod charge aa W pe
      = fun i : Cert.ReferenceIdeal.S4096x200x128.Idx => (Spec.embed idx mod charge aa W pe (i 0) (i 1) (i 2) : EReal) :=
  funext fun i => by
    have e : i = ix3 (i 0) (i 1) (i 2) := funext fun a => by
      match a with
      | ⟨0, _⟩ => rfl
      | ⟨1, _⟩ => rfl
      | ⟨2, _⟩ => rfl
    exact (congrArg (Cert.ReferenceIdeal.Read.val_main_v12 (F := Ideal) idx mod charge aa W pe) e).trans
      (Reference.result_apply idx mod charge aa W pe h (i 0) (i 1) (i 2))

/-- Over the extended reals, from equal arguments meeting the precondition, the kernel and the reference end with equal
    results. -/
theorem algebraic : Cert.algebraic_KernelIdeal_ReferenceIdeal_pre_indices_in_table := by
  intro m g m' g' hpre hargs
  refine ⟨fun c => Array.result m c, ?_, ?_⟩
  · exact (θ_run _ _ _).mono (fun r h c => ⟨(h c).1.trans (Array.final m c (Precondition.inTable m hpre c)), (h c).2⟩)
      (Cert.KernelIdeal.Value.run_blocks m g)
  · refine (θ_run _ _ _).mono (fun r h c => ⟨(h c).1.trans ?_, (h c).2⟩) (Cert.ReferenceIdeal.Value.run (F := Ideal) m' g')
    obtain ⟨h0, h1, h2, h3, h4, h5⟩ := hargs c
    rw [Cert.ReferenceIdeal.Read.val_main_v12_eq, h0, h1, h2, h3, h4, h5]
    exact reference_value _ _ _ _ _ _ (Precondition.inTable m hpre c)

/-- Everything the certificate claims. -/
theorem claim : Cert.Claim :=
  ⟨Cert.Kernel.Gen.facts, Cert.KernelIdeal.Gen.facts, Cert.ReferenceIdeal.Gen.facts, Precondition.facts,
    fun m g _ => Cert.Kernel.Gen.frame m g, fun m g _ => Cert.KernelIdeal.Gen.frame m g,
    fun m g _ => Cert.KernelIdeal.Gen.frame m g, reference_quiescent, reference_quiescent_pre, trivial, algebraic⟩

end Cert.Proof

end
